-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S1x1024x1024 : Shape := ⟨3, ![1, 1024, 1024]⟩
abbrev S_ : Shape := ⟨0, ![]⟩

class Facts : Prop where
  bcast_S_S1x1024x1024 : S_.BroadcastsInDim S1x1024x1024 (![] : Fin 0 → Fin S1x1024x1024.rank)

variable [Facts]

def fn {F : FTy → Type} [FloatOps F] (main_arg0 : IVec S1x1024x1024 32) (main_arg1 : IVec S1x1024x1024 32) : IVec S1x1024x1024 1 :=
  let main_c : IVec S_ 32 := constantI S_ 32 0#32
  let main_v0 : IVec S1x1024x1024 32 := broadcastInDim S1x1024x1024 ![] bcast_S_S1x1024x1024 main_c
  let main_v1 : IVec S1x1024x1024 1 := cmpi .sge main_arg0 main_v0
  let main_c_0 : IVec S_ 32 := constantI S_ 32 64#32
  let main_v2 : IVec S1x1024x1024 32 := broadcastInDim S1x1024x1024 ![] bcast_S_S1x1024x1024 main_c_0
  let main_v3 : IVec S1x1024x1024 1 := cmpi .slt main_arg0 main_v2
  let main_v4 : IVec S1x1024x1024 1 := andi main_v1 main_v3
  let main_c_1 : IVec S_ 32 := constantI S_ 32 0#32
  let main_v5 : IVec S1x1024x1024 32 := broadcastInDim S1x1024x1024 ![] bcast_S_S1x1024x1024 main_c_1
  let main_v6 : IVec S1x1024x1024 1 := cmpi .sge main_arg1 main_v5
  let main_v7 : IVec S1x1024x1024 1 := andi main_v4 main_v6
  let main_c_2 : IVec S_ 32 := constantI S_ 32 64#32
  let main_v8 : IVec S1x1024x1024 32 := broadcastInDim S1x1024x1024 ![] bcast_S_S1x1024x1024 main_c_2
  let main_v9 : IVec S1x1024x1024 1 := cmpi .slt main_arg1 main_v8
  let main_v10 : IVec S1x1024x1024 1 := andi main_v7 main_v9
  main_v10
-- ==== Kernel.lean ====
abbrev S1x1024x1024 : Shape := ⟨3, ![1, 1024, 1024]⟩
abbrev S1x1 : Shape := ⟨2, ![1, 1]⟩
abbrev S1x128x1024 : Shape := ⟨3, ![1, 128, 1024]⟩
abbrev S64x64 : Shape := ⟨2, ![64, 64]⟩
abbrev S128x1024 : Shape := ⟨2, ![128, 1024]⟩
abbrev S64x1 : Shape := ⟨2, ![64, 1]⟩
abbrev S1x1024 : Shape := ⟨2, ![1, 1024]⟩
abbrev S64x1024 : Shape := ⟨2, ![64, 1024]⟩
abbrev S64x131072 : Shape := ⟨2, ![64, 131072]⟩
abbrev S64 : Shape := ⟨1, ![64]⟩
abbrev S1x64 : Shape := ⟨2, ![1, 64]⟩
abbrev S1 : Shape := ⟨1, ![1]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S1x1024x1024, .i32⟩
  | .hbm, ⟨1, _⟩ => ⟨S1x1024x1024, .i32⟩
  | .hbm, ⟨2, _⟩ => ⟨S1x1, .f32⟩
  | .hbm, ⟨3, _⟩ => ⟨S_, .f32⟩
  | .local _ .vmem, ⟨0, _⟩ => ⟨S1x128x1024, .i32⟩
  | .local _ .vmem, ⟨1, _⟩ => ⟨S1x128x1024, .i32⟩
  | .local _ .vmem, ⟨2, _⟩ => ⟨S1x128x1024, .i32⟩
  | .local _ .vmem, ⟨3, _⟩ => ⟨S1x128x1024, .i32⟩
  | .local _ .vmem, ⟨4, _⟩ => ⟨S1x1, .f32⟩
  | .local _ .vmem, ⟨5, _⟩ => ⟨S64x64, .f32⟩
  | _, _ => ⟨S1x1024x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v1811 : BitVec 1 := Scalar.cmpi .eq arg0 c7_i32
  let v1812 : BitVec 32 := Scalar.extui v1811
  let c0_i32_520 : BitVec 32 := 0#32
  let v1813 : BitVec 1 := Scalar.cmpi .ne v1812 c0_i32_520
  v1813

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S1x1024x1024 : Shape := ⟨3, ![1, 1024, 1024]⟩
abbrev S63 : Shape := ⟨1, ![63]⟩
abbrev S_ : Shape := ⟨0, ![]⟩
abbrev S1024x1024 : Shape := ⟨2, ![1024, 1024]⟩
abbrev S1048576 : Shape := ⟨1, ![1048576]⟩
abbrev S1x1048576 : Shape := ⟨2, ![1, 1048576]⟩
abbrev S63x1 : Shape := ⟨2, ![63, 1]⟩
abbrev S63x1048576 : Shape := ⟨2, ![63, 1048576]⟩
abbrev S1048576x63 : Shape := ⟨2, ![1048576, 63]⟩
abbrev S63x63 : Shape := ⟨2, ![63, 63]⟩
abbrev S1x63 : Shape := ⟨2, ![1, 63]⟩

abbrev nBuf : Space → Nat
  | .hbm => 90
  | .vmem => 0
  | .smem => 0
  | _ => 0

abbrev bufTy : (tb : Table) → Fin (tcTables nBuf tb) → BufTy
  | .hbm, ⟨0, _⟩ => ⟨S1x1024x1024, .i32⟩
  | .hbm, ⟨1, _⟩ => ⟨S1x1024x1024, .i32⟩
  | .hbm, ⟨2, _⟩ => ⟨S63, .i32⟩
  | .hbm, ⟨3, _⟩ => ⟨S_, .i32⟩
  | .hbm, ⟨4, _⟩ => ⟨S63, .i32⟩
  | .hbm, ⟨5, _⟩ => ⟨S63, .i32⟩
  | .hbm, ⟨6, _⟩ => ⟨S1024x1024, .i32⟩
  | .hbm, ⟨7, _⟩ => ⟨S1048576, .i32⟩
  | .hbm, ⟨8, _⟩ => ⟨S1024x1024, .i32⟩
  | .hbm, ⟨9, _⟩ => ⟨S1048576, .i32⟩
  | .hbm, ⟨10, _⟩ => ⟨S1x1048576, .i32⟩
  | .hbm, ⟨11, _⟩ => ⟨S63x1, .i32⟩
  | .hbm, ⟨12, _⟩ => ⟨S63x1048576, .i32⟩
  | .hbm, ⟨13, _⟩ => ⟨S63x1048576, .i32⟩
  | .hbm, ⟨14, _⟩ => ⟨S63x1048576, .i1⟩
  | .hbm, ⟨15, _⟩ => ⟨S63x1048576, .f32⟩
  | .hbm, ⟨16, _⟩ => ⟨S1x1048576, .i32⟩
  | .hbm, ⟨17, _⟩ => ⟨S63x1, .i32⟩
  | .hbm, ⟨18, _⟩ => ⟨S63x1048576, .i32⟩
  | .hbm, ⟨19, _⟩ => ⟨S63x1048576, .i32⟩
  | .hbm, ⟨20, _⟩ => ⟨S63x1048576, .i1⟩
  | .hbm, ⟨21, _⟩ => ⟨S63x1048576, .f32⟩
  | .hbm, ⟨22, _⟩ => ⟨S1048576x63, .f32⟩
  | .hbm, ⟨23, _⟩ => ⟨S63x63, .f32⟩
  | .hbm, ⟨24, _⟩ => ⟨S_, .f32⟩
  | .hbm, ⟨25, _⟩ => ⟨S63, .f32⟩
  | .hbm, ⟨26, _⟩ => ⟨S_, .f32⟩
  | .hbm, ⟨27, _⟩ => ⟨S63, .f32⟩
  | .hbm, ⟨28, _⟩ => ⟨S63x1, .f32⟩
  | .hbm, ⟨29, _⟩ => ⟨S1x63, .f32⟩
  | .hbm, ⟨30, _⟩ => ⟨S63x63, .f32⟩
  | .hbm, ⟨31, _⟩ => ⟨S63x63, .f32⟩
  | .hbm, ⟨32, _⟩ => ⟨S63x63, .f32⟩
  | .hbm, ⟨33, _⟩ => ⟨S63x63, .f32⟩
  | .hbm, ⟨34, _⟩ => ⟨S_, .f32⟩
  | .hbm, ⟨35, _⟩ => ⟨S63x63, .f32⟩
  | .hbm, ⟨36, _⟩ => ⟨S63x63, .i1⟩
  | .hbm, ⟨37, _⟩ => ⟨S_, .f32⟩
  | .hbm, ⟨38, _⟩ => ⟨S63x63, .f32⟩
  | .hbm, ⟨39, _⟩ => ⟨S63x63, .f32⟩
  | .hbm, ⟨40, _⟩ => ⟨S63x63, .f32⟩
  | .hbm, ⟨41, _⟩ => ⟨S_, .f32⟩
  | .hbm, ⟨42, _⟩ => ⟨S_, .f32⟩
  | .hbm, ⟨43, _⟩ => ⟨S63x63, .f32⟩
  | .hbm, ⟨44, _⟩ => ⟨S63x63, .f32⟩
  | .hbm, ⟨45, _⟩ => ⟨S_, .f32⟩
  | .hbm, ⟨46, _⟩ => ⟨S63, .f32⟩
  | .hbm, ⟨47, _⟩ => ⟨S63, .i1⟩
  | .hbm, ⟨48, _⟩ => ⟨S_, .f32⟩
  | .hbm, ⟨49, _⟩ => ⟨S63, .f32⟩
  | .hbm, ⟨50, _⟩ => ⟨S63, .i1⟩
  | .hbm, ⟨51, _⟩ => ⟨S_, .f32⟩
  | .hbm, ⟨52, _⟩ => ⟨S63, .f32⟩
  | .hbm, ⟨53, _⟩ => ⟨S_, .f32⟩
  | .hbm, ⟨54, _⟩ => ⟨S63, .f32⟩
  | .hbm, ⟨55, _⟩ => ⟨S_, .f32⟩
  | .hbm, ⟨56, _⟩ => ⟨S63, .f32⟩
  | .hbm, ⟨57, _⟩ => ⟨S63, .f32⟩
  | .hbm, ⟨58, _⟩ => ⟨S_, .f32⟩
  | .hbm, ⟨59, _⟩ => ⟨S_, .f32⟩
  | .hbm, ⟨60, _⟩ => ⟨S63, .f32⟩
  | .hbm, ⟨61, _⟩ => ⟨S63, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S63, .f32⟩
  | .hbm, ⟨66, _⟩ => ⟨S63, .f32⟩
  | .hbm, ⟨67, _⟩ => ⟨S_, .f32⟩
  | .hbm, ⟨68, _⟩ => ⟨S_, .f32⟩
  | .hbm, ⟨69, _⟩ => ⟨S63, .f32⟩
  | .hbm, ⟨70, _⟩ => ⟨S63, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S63, .i32⟩
  | .hbm, ⟨75, _⟩ => ⟨S_, .i32⟩
  | .hbm, ⟨76, _⟩ => ⟨S_, .i32⟩
  | .hbm, ⟨77, _⟩ => ⟨S63, .i32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S_, .i1⟩
  | .hbm, ⟨83, _⟩ => ⟨S_, .i32⟩
  | .hbm, ⟨84, _⟩ => ⟨S_, .i32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | _, _ => ⟨S1x1024x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst : Ref sig .tc := ⟨.hbm, 24, rfl⟩
abbrev main_v21 : Ref sig .tc := ⟨.hbm, 25, rfl⟩
abbrev main_cst_0 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_1 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_call0_v0 : Ref sig .tc := ⟨.hbm, 42, rfl⟩
abbrev main_call0_v1 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_call1_v0 : Ref sig .tc := ⟨.hbm, 59, rfl⟩
abbrev main_call1_v1 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_cst_11 : Ref sig .tc := ⟨.hbm, 64, rfl⟩
abbrev main_v45 : Ref sig .tc := ⟨.hbm, 65, rfl⟩
abbrev main_v46 : Ref sig .tc := ⟨.hbm, 66, rfl⟩
abbrev main_cst_12 : Ref sig .tc := ⟨.hbm, 67, rfl⟩
abbrev main_call2_v0 : Ref sig .tc := ⟨.hbm, 68, rfl⟩
abbrev main_call2_v1 : Ref sig .tc := ⟨.hbm, 69, rfl⟩
abbrev main_v47 : Ref sig .tc := ⟨.hbm, 70, rfl⟩
abbrev main_cst_13 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_14 : Ref sig .tc := ⟨.hbm, 75, rfl⟩
abbrev main_v51 : Ref sig .tc := ⟨.hbm, 76, rfl⟩
abbrev main_v52 : Ref sig .tc := ⟨.hbm, 77, rfl⟩
abbrev main_c_15 : Ref sig .tc := ⟨.hbm, 78, rfl⟩
abbrev main_v53 : Ref sig .tc := ⟨.hbm, 79, rfl⟩
abbrev main_v54 : Ref sig .tc := ⟨.hbm, 80, rfl⟩
abbrev main_c_16 : Ref sig .tc := ⟨.hbm, 81, rfl⟩
abbrev main_v55 : Ref sig .tc := ⟨.hbm, 82, rfl⟩
abbrev main_c_17 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_18 : Ref sig .tc := ⟨.hbm, 87, rfl⟩
abbrev main_call3_v0 : Ref sig .tc := ⟨.hbm, 88, rfl⟩
abbrev main_v59 : Ref sig .tc := ⟨.hbm, 89, rfl⟩

abbrev nD : Nat := 1
abbrev τ : Topo := Topo.v7x

variable {F : FTy → Type} [FloatOps F]
-- ==== Proof.Block.lean ====
/-
  WHAT ONE GRID POINT LEAVES. The kernel body at a point reads one block of `pred_mask` and one of `true_mask`, builds
  the one-hot matrix of each (64 ids by 131072 pixels: the 128 rows of the block laid side by side), and multiplies the
  two along the pixels. This file names that product (`part`), and states what each case of the body leaves in the
  table kept between the points and, at the last point, in the result.
-/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Iou

open Idealize.ShloMosaic Idealize.ShloMosaic.TcCoe Idealize.SL.Sem
open Cert.KernelIdeal Cert.KernelIdeal.Gen

variable {F : FTy → Type} [FloatOps F]

/-- The offsets of a whole two-axis load or store are all zero. -/
theorem zero2 : (![0, 0] : Fin 2 → Nat) = fun _ => 0 := funext fun a => by fin_cases a <;> rfl

/-- The offsets of a whole three-axis load are all zero. -/
theorem zero3 : (![0, 0, 0] : Fin 3 → Nat) = fun _ => 0 := funext fun a => by fin_cases a <;> rfl

/-- Row `r` of a block is one of its 128 rows. -/
theorem rowFits (r : Fin 128) : S128x1024.Slices ![r.val, 0] S1x1024 := by
  refine ⟨rfl, fun a => ?_⟩
  have := r.isLt
  fin_cases a
  · show r.val + 1 ≤ 128; omega
  · show 0 + 1024 ≤ 1024; omega

/-- The one-hot of row `r` of a block: entry (id, lane) is 1 where the row's lane holds the id, else 0. -/
def slab (v : FVec F S128x1024 .bf16) (r : Fin 128) : FVec F S64x1024 .bf16 :=
  select (cmpf .oeq
      (broadcastTo S64x1024 (extractStridedSlice S1x1024 ![r.val, 0] v (rowFits r)) broadcasts_S1x1024_S64x1024)
      (broadcastTo S64x1024 (k0_pay11 (F := F)) broadcasts_S64x1_S64x1024))
    (broadcast S64x1024 (Scalar.ofBits .bf16 0x3F80#16)) (broadcast S64x1024 (Scalar.ofBits .bf16 0x0000#16))

/-- 128 slabs of 1024 lanes fill 131072 lanes. -/
theorem slabsFit (f : Fin 128 → FVec F S64x1024 .bf16) :
    Shape.Concatenates ((List.ofFn fun r : Fin 128 => (⟨S64x1024, f r⟩ : (s : Shape) × (s.Idx → F .bf16))).map (·.1))
      S64x131072 1 := by
  rw [List.map_ofFn]
  show Shape.Concatenates (List.ofFn fun _ : Fin 128 => S64x1024) S64x131072 1
  rw [List.ofFn_const]
  decide +kernel

/-- The one-hot matrix of a block: its rows' one-hots side by side. -/
def onehot (x : Vec F S1x128x1024 .i32) : FVec F S64x131072 .bf16 :=
  concatenate S64x131072 1 (List.ofFn fun r : Fin 128 => ⟨S64x1024, slab (k0_pay9 x) r⟩) (slabsFit _)

/-- The intersection counts of one pair of blocks: the product of their one-hot matrices along the pixels. -/
def part (x y : Vec F S1x128x1024 .i32) : FVec F S64x64 .f32 :=
  matmul dot_S64x131072_S64x131072_S64x64_1_1_0_0_n_n none
    (truncf .fp8e4m3 (onehot x) bitsLt_fp8e4m3_bf16) (truncf .fp8e4m3 (onehot y) bitsLt_fp8e4m3_bf16)
    (constant S64x64 .f32 0x00000000#32)

/-- The loss from the table, as the last point computes it. -/
def loss (v : Vec F S64x64 .f32) : FVec F S1x1 .f32 :=
  k0_pay1 (k0_pay5 v) (k0_pay6 v) (k0_pay7 v) (k0_pay8 v) (Scalar.ofBits .f32 0x3F800000#32)

/-- The first point leaves the counts of its blocks in the table. -/
theorem table_A (c : Dev nD) (i : grid0.Coords) (a1 : Memref sig .tc .vmem S1x128x1024 .i32) (h1 : a1.IsWhole)
    (a2 : Memref sig .tc .vmem S1x128x1024 .i32) (h2 : a2.IsWhole) (a3 : Memref sig .tc .vmem S1x1 .f32) (h3 : a3.IsWhole)
    (a4 : Memref sig .tc .vmem S64x64 .f32) (h4 : a4.IsWhole) (hc0 : cond0_0 i) (hc1 : ¬cond0_1 i) (hc2 : ¬cond0_2 i)
    (x y : Vec F S1x128x1024 .i32) :
    sout0_A_0 c i a1 h1 a2 h2 a3 h3 a4 h4 hc0 hc1 hc2 x y = part x y := by
  unfold sout0_A_0
  rw [View.read_writes_eq_canon _ _ _ (scover0_A_0 c i a1 h1 a2 h2 a3 h3 a4 h4 hc0 hc1 hc2 x y)]
  unfold kernelRun0_A
  dsimp only
  sl_unfold_words
  rw [View.canon_unit_zero zero2]
  unfold k0_pay305
  simp only [View.readAt_eq_ld, h1.read_unread, h2.read_unread, View.ld_unit_zero (S := S1x128x1024) zero3, shapeCast_self]
  rfl

/-- A middle point adds the counts of its blocks to the table. -/
theorem table_B (c : Dev nD) (i : grid0.Coords) (a1 : Memref sig .tc .vmem S1x128x1024 .i32) (h1 : a1.IsWhole)
    (a2 : Memref sig .tc .vmem S1x128x1024 .i32) (h2 : a2.IsWhole) (a3 : Memref sig .tc .vmem S1x1 .f32) (h3 : a3.IsWhole)
    (a4 : Memref sig .tc .vmem S64x64 .f32) (h4 : a4.IsWhole) (hc0 : ¬cond0_0 i) (hc1 : cond0_1 i) (hc2 : ¬cond0_2 i)
    (x y : Vec F S1x128x1024 .i32) (s : Vec F S64x64 .f32) :
    sout0_B_0 c i a1 h1 a2 h2 a3 h3 a4 h4 hc0 hc1 hc2 x y s = addf s (part x y) := by
  unfold sout0_B_0
  rw [View.read_writes_eq_canon _ _ _ (scover0_B_0 c i a1 h1 a2 h2 a3 h3 a4 h4 hc0 hc1 hc2 x y s)]
  unfold kernelRun0_B
  dsimp only
  sl_unfold_words
  rw [View.canon_unit_zero zero2]
  unfold k0_pay306
  simp only [View.readAt_eq_ld, h1.read_unread, h2.read_unread, h4.read_unread,
    View.ld_unit_zero (S := S1x128x1024) zero3, View.ld_unit_zero (S := S64x64) zero2, shapeCast_self]
  rfl

/-- The last point leaves in the result the loss of the table with the counts of its blocks added. -/
theorem out_C (c : Dev nD) (i : grid0.Coords) (a1 : Memref sig .tc .vmem S1x128x1024 .i32) (h1 : a1.IsWhole)
    (a2 : Memref sig .tc .vmem S1x128x1024 .i32) (h2 : a2.IsWhole) (a3 : Memref sig .tc .vmem S1x1 .f32) (h3 : a3.IsWhole)
    (a4 : Memref sig .tc .vmem S64x64 .f32) (h4 : a4.IsWhole) (hc0 : ¬cond0_0 i) (hc1 : cond0_1 i) (hc2 : cond0_2 i)
    (x y : Vec F S1x128x1024 .i32) (s : Vec F S64x64 .f32) :
    out0_C_2 c i a1 h1 a2 h2 a3 h3 a4 h4 hc0 hc1 hc2 x y s = loss (addf s (part x y)) := by
  unfold out0_C_2
  rw [View.read_writes_eq_canon _ _ _ (cover0_C_2 c i a1 h1 a2 h2 a3 h3 a4 h4 hc0 hc1 hc2 x y s)]
  unfold kernelRun0_C
  dsimp only
  sl_unfold_words
  rw [View.canon_unit_zero zero2]
  simp only [View.readCov_unit_zero (S := S64x64) _ zero2]
  unfold k0_pay306
  simp only [View.readAt_eq_ld, h1.read_unread, h2.read_unread, h4.read_unread,
    View.ld_unit_zero (S := S1x128x1024) zero3, View.ld_unit_zero (S := S64x64) zero2, shapeCast_self]
  rfl

end Cert.KernelIdeal.Iou

end
-- ==== Proof.Run.lean ====
/-
  WHAT THE KERNEL'S RUN LEAVES. The table kept between the points holds, after point `n`, the counts of the blocks 0..n
  added in order (`table`); the one write-back, after point 7, writes the loss of the last table, and the host's line
  after the launch hands on that one number.
-/
module

public import proofs.«01_k».proof.Proof.Block

@[expose] public section

set_option maxRecDepth 16384

noncomputable section

namespace Cert.KernelIdeal.Iou

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The counts of the two blocks that point `t` reads. -/
def partAt (c : Dev nD) (t : Fin cfg0.N) : Vec F S64x64 .f32 := part (iblk m c 0 t) (iblk m c 1 t)

/-- The table after point `n`: the counts of the blocks 0..n, added in order. -/
def table (c : Dev nD) : (n : ℕ) → n < cfg0.N → Vec F S64x64 .f32
  | 0, h => partAt m c ⟨0, h⟩
  | n + 1, h => addf (table c n (Nat.lt_of_succ_lt h)) (partAt m c ⟨n + 1, h⟩)

/-- Before the last point, the table kept between the points is `table`. -/
theorem kept_eq (c : Dev nD) : ∀ (n : ℕ) (h : n < cfg0.N), n < 7 → (outsAt0 m c n h).2 = table m c n h
  | 0, h, _ => by
    rw [outsAt0_A m c ⟨0, h⟩ rfl (by simp) (by simp)]
    dsimp only
    rw [table_A]
    rfl
  | n + 1, h, h7 => by
    have h0 : ¬(⟨n + 1, h⟩ : Fin cfg0.N).val % 8 = 0 := by dsimp only; omega
    have h1 : 1 ≤ (⟨n + 1, h⟩ : Fin cfg0.N).val := by dsimp only; omega
    have h2 : ¬(⟨n + 1, h⟩ : Fin cfg0.N).val % 8 = 7 := by dsimp only; omega
    rw [outsAt0_B m c ⟨n + 1, h⟩ h0 h1 h2]
    dsimp only
    rw [table_B]
    show addf (outsAt0 m c n _).2 _ = addf (table m c n _) _
    rw [kept_eq c n _ (by omega)]
    rfl

/-- Point 7 is a point of the grid. -/
theorem seven_lt : 7 < grid0.N := by rw [N_0]; decide

/-- What the launch's result array ends holding: the loss of the table after the last point. -/
abbrev result (c : Dev nD) : Buf (Elt F) ((c : Thread nD τ).loc main_v0) := loss (table m c 7 seven_lt)

/-- The last point leaves the loss of the last table in the result's block. -/
theorem block_eq (c : Dev nD) : (outsAt0 m c t0_7.val t0_7.isLt).1 = loss (table m c 7 seven_lt) := by
  rw [outsAt0_C m c t0_7 (by decide) (by decide) (by decide)]
  dsimp only
  rw [out_C]
  exact congrArg (fun s => loss (addf s (partAt m c t0_7))) (kept_eq m c 6 (Nat.lt_of_succ_lt seven_lt) (by decide))

/-- The one write-back writes it. -/
theorem flushed_eq (c : Dev nD) (t : Fin cfg0.N) (hf : (cfg0.win 2).flush t = true) :
    (dats m 0 c).flushed 2 t = ((cfg0.win 2).blk t).view.read (Elt F) (result m c) := by
  have hN : cfg0.N = 8 := N_0
  have h7 : t.val = 7 := by have := (flush0_2 t).mp hf; have := t.isLt; omega
  obtain rfl : t = t0_7 := Fin.ext h7
  show (cfg0.win 2).cut (grid0.coords t0_7) ((dats m 0 c).after 2 t0_7) = _
  rw [after0_2, block_eq]
  have hz' : (fun a => win0_2.index t0_7 a * main_v0.ty.shape.size a) = fun _ => 0 := funext fun a => by fin_cases a <;> decide
  exact (Memref.read_access_unit_zero (Elt F) main_v0 hz' (fun a => by rw [congrFun hz' a]; simp) (result m c)).symm

/-- So the launch's result array ends holding the loss of the last table: the last point's block is the whole array. -/
theorem final_eq (c : Dev nD) : (dats m 0 c).arrAt 2 cfg0.N = result m c :=
  (dats m 0 c).arrAt_eq_of_cover 2 (result m c) (flushed_eq m c) fun i =>
    ⟨t0_7, (flush0_2 t0_7).mpr rfl, by
      show i ∈ ((View.whole main_v0).slice (win0_2.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_7 0 * win0_2.size 0 ≤ (i 0 : Nat) ∧ (i 0 : Nat) < win0_2.index t0_7 0 * win0_2.size 0 + win0_2.xsize (grid0.coords t0_7) 0
                  rw [show win0_2.index t0_7 0 * win0_2.size 0 = 0 from by decide +kernel, show win0_2.xsize (grid0.coords t0_7) 0 = 1 from by decide +kernel]; omega
      | ⟨1, _⟩ => show win0_2.index t0_7 1 * win0_2.size 1 ≤ (i 1 : Nat) ∧ (i 1 : Nat) < win0_2.index t0_7 1 * win0_2.size 1 + win0_2.xsize (grid0.coords t0_7) 1
                  rw [show win0_2.index t0_7 1 * win0_2.size 1 = 0 from by decide +kernel, show win0_2.xsize (grid0.coords t0_7) 1 = 1 from by decide +kernel]; omega⟩

/-- The program's result: the one number the launch's result array holds. -/
abbrev scalar (c : Dev nD) : Buf (Elt F) ((c : Thread nD τ).loc main_v1) :=
  shapeCast S_ (loss (table m c 7 seven_lt)) shapeCasts_S1x1_S_

/-- What the host's line after the launch leaves in the program's result. -/
theorem tail_eq (c : Dev nD) :
    Pipeline.afterTail₀ cfgs (dats m) 0 (V0 m) [hostOps1] c main_v1 = scalar m c := by
  have hw := Pipeline.withArrays_arr spec0 launch0.win.arr_inj c (V0 m c) (fun w => (dats m 0 c).arrAt w cfg0.N) 2
  unfold Pipeline.afterTail₀
  show StableHlo.after hostOps1 _ _ = _
  after_results
  funext i
  show shapeCast S_ _ shapeCasts_S1x1_S_ i = shapeCast S_ _ shapeCasts_S1x1_S_ i
  congr 1
  exact hw.trans (final_eq m c)

/-- The run, read: the program's result is the loss of the last table, and the arguments are unchanged. -/
theorem run : θ_run defs (onTc (τ := τ) (main (F := F))) ⟨m, fun _ => 0, ρ⟩ fun r => ∀ c : Dev nD,
      r.2.mem ((c : Thread nD τ).loc main_v1) = scalar m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v1 (Pipeline.mem_restRefs_of main_v1 rfl (by intro w; fin_cases w <;> decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Iou

end
-- ==== Proof.Spec.lean ====
/-
  THE COMMON MEANING. What both programs are shown to compute, over the extended reals and without naming either
  program: the counts of pixels over two arrays of ids (`inter`, `area`), and the loss as a function of counts (`spec`).
-/
module

public import Idealize.ShloMosaic.Lib.Pointwise
public import Idealize.ShloMosaic.PureOps.Ideal.Laws

@[expose] public section

set_option maxRecDepth 16384

noncomputable section

namespace Cert.Iou

open Idealize.ShloMosaic

/-! ## Small facts -/

/-- A choice by the bit 1 takes the first. -/
theorem choose_one {α : Type} (a b : α) : Scalar.select 1#1 a b = a := rfl

/-- A choice by the bit 0 takes the second. -/
theorem choose_zero {α : Type} (a b : α) : Scalar.select 0#1 a b = b := rfl

/-- A choice by a decided bit is an `if`. -/
theorem choose_decide {α : Type} (p : Prop) [Decidable p] (a b : α) :
    Scalar.select (BitVec.ofBool (decide p)) a b = if p then a else b := by
  by_cases h : p <;> simp [Scalar.select, h]

/-- A decided bit, widened and read as a signed number, is 1 or 0. -/
theorem bit_signed (p : Prop) [Decidable p] :
    (((BitVec.setWidth 32 (BitVec.ofBool (decide p))).toInt : ℝ) : EReal) = if p then 1 else 0 := by
  by_cases h : p <;> simp [h]

/-- A decided bit read as an unsigned number is 1 or 0. -/
theorem bit_unsigned (p : Prop) [Decidable p] :
    (((BitVec.ofBool (decide p)).toNat : ℝ) : EReal) = if p then 1 else 0 := by
  by_cases h : p <;> simp [h]

/-- A sum of ones and zeros is the number of ones. -/
theorem sum_ones {ι : Type} [Fintype ι] (p : ι → Prop) [DecidablePred p] :
    (∑ i, if p i then (1 : EReal) else 0) = (((Finset.univ.filter p).card : ℝ) : EReal) := by
  classical
  have h : ∀ s : Finset ι, (∑ i ∈ s, if p i then (1 : EReal) else 0) = (((s.filter p).card : ℝ) : EReal) := by
    intro s
    induction s using Finset.induction_on with
    | empty => simp
    | insert a s ha ih =>
      rw [Finset.sum_insert ha, ih, Finset.filter_insert]
      by_cases hp : p a
      · rw [if_pos hp, if_pos hp, Finset.card_insert_of_notMem (by simp [ha])]
        push_cast
        rw [add_comm]
      · rw [if_neg hp, if_neg hp, zero_add]
  exact h _

/-- Decided bits added up as 32-bit words give the number of ones, as a word. -/
theorem fold_bits {ι : Type} [Fintype ι] (p : ι → Prop) [DecidablePred p] :
    Finset.univ.fold IntOp.addi 0#32 (fun i : ι => BitVec.setWidth 32 (BitVec.ofBool (decide (p i))))
      = BitVec.ofNat 32 (Finset.univ.filter p).card := by
  classical
  have h : ∀ s : Finset ι, s.fold IntOp.addi 0#32 (fun i : ι => BitVec.setWidth 32 (BitVec.ofBool (decide (p i))))
      = BitVec.ofNat 32 (s.filter p).card := by
    intro s
    induction s using Finset.induction_on with
    | empty => simp
    | insert a s ha ih =>
      rw [Finset.fold_insert ha, ih, Finset.filter_insert]
      by_cases hp : p a
      · rw [if_pos hp, Finset.card_insert_of_notMem (by simp [ha])]
        simp only [hp, decide_true, IntOp.addi]
        rw [Nat.add_comm, BitVec.ofNat_add]
        rfl
      · rw [if_neg hp]
        simp [hp, IntOp.addi]
  exact h _

/-- The negative infinity of the maxima. -/
theorem negInf : Ideal.ofBits .f32 4286578688#32 = ⊥ := by simp [Ideal.ofBits, Ideal.ieee]

/-! ## The loss as a function of counts -/

/-- The overlap of two ids: their common pixels over the pixels of either, 0 where there are none. -/
def iou (n a b : EReal) : EReal := if 0 < a + b - n then Ideal.div n (max (a + b - n) 1) else 0

/-- An overlap of a nonnegative count is nonnegative. -/
theorem iou_nonneg {n : EReal} (a b : EReal) (hn : 0 ≤ n) : 0 ≤ iou n a b := by
  unfold iou
  split
  · have h1 : (0 : EReal) < max (a + b - n) 1 := lt_of_lt_of_le zero_lt_one (le_max_right _ _)
    rw [Ideal.div, if_neg h1.ne']
    exact EReal.div_nonneg hn h1.le
  · exact le_rfl

/-- The largest of finitely many values. -/
def best {n : ℕ} (f : Fin n → EReal) : EReal := Finset.univ.fold max ⊥ f

/-- A first value 0 does not change the largest of nonnegative values. -/
theorem best_succ {n : ℕ} (f : Fin (n + 2) → EReal) (h0 : f 0 = 0) (h : ∀ i, 0 ≤ f i) :
    best f = best fun i : Fin (n + 1) => f i.succ := by
  unfold best
  rw [Fin.univ_succ, Finset.fold_cons, Finset.fold_map, h0]
  exact max_eq_right ((Finset.le_fold_max _).mpr (.inr ⟨0, Finset.mem_univ _, h _⟩))

section
variable (n : Fin 63 → Fin 63 → EReal) (a b : Fin 63 → EReal)

/-- The number of instances: the ids present in the first array and those present in the second. -/
def instances : ℕ := (Finset.univ.filter fun i => 0 < a i).card + (Finset.univ.filter fun j => 0 < b j).card

/-- There are at most 126 instances. -/
theorem instances_lt : instances a b < 127 := by
  have h1 := Finset.card_filter_le (Finset.univ : Finset (Fin 63)) fun i => 0 < a i
  have h2 := Finset.card_filter_le (Finset.univ : Finset (Fin 63)) fun j => 0 < b j
  simp only [Finset.card_univ, Fintype.card_fin] at h1 h2
  unfold instances
  omega

/-- The total loss: over the present ids of each array, one minus the best overlap with an id of the other. -/
def total : EReal :=
  (∑ i, if 0 < a i then 1 - best (fun j => iou (n i j) (a i) (b j)) else 0)
    + ∑ j, if 0 < b j then 1 - best (fun i => iou (n i j) (a i) (b j)) else 0

/-- The loss: the total over the number of instances, 0 where there are none. -/
def spec : EReal :=
  if 0 < instances a b then Ideal.div (total n a b) (max ((instances a b : ℝ) : EReal) 1) else 0

end

/-! ## The counts -/

section
variable (x y : (⟨3, ![1, 1024, 1024]⟩ : Shape).Idx → BitVec 32)

/-- Pixel `p` of an array of ids, the rows one after another. -/
def px (p : Fin 1048576) : BitVec 32 := x (ix3 0 ⟨p.val / 1024, by omega⟩ ⟨p.val % 1024, by omega⟩)

/-- 1 where pixel `p` holds id `i`, else 0. -/
def ind (i : ℕ) (p : Fin 1048576) : EReal := if px x p = BitVec.ofNat 32 i then 1 else 0

/-- The number of pixels that hold id `i` in the first array and id `j` in the second. -/
def inter (i j : ℕ) : EReal := ∑ p, ind x i p * ind y j p

/-- The number of pixels that hold id `i`. -/
def area (i : ℕ) : EReal := ∑ p, ind x i p

/-- `ind` is 1 or 0. -/
theorem ind_nonneg (i : ℕ) (p : Fin 1048576) : 0 ≤ ind x i p := by
  unfold ind; split
  · exact zero_le_one
  · exact le_rfl

/-- A count is nonnegative. -/
theorem inter_nonneg (i j : ℕ) : 0 ≤ inter x y i j :=
  Finset.sum_nonneg fun p _ => mul_nonneg (ind_nonneg x i p) (ind_nonneg y j p)

/-- `inter` is symmetric in the two arrays. -/
theorem inter_comm (i j : ℕ) : inter x y i j = inter y x j i :=
  Finset.sum_congr rfl fun p _ => mul_comm _ _

/-- A pixel whose id is below 64 holds exactly one of the ids 0..63. -/
theorem sum_ind (p : Fin 1048576) (h : (px y p).toNat < 64) : (∑ j : Fin 64, ind y j.val p) = 1 := by
  rw [Finset.sum_eq_single (⟨(px y p).toNat, h⟩ : Fin 64)]
  · unfold ind
    rw [if_pos]
    simp
  · intro j _ hj
    unfold ind
    rw [if_neg]
    intro he
    apply hj
    apply Fin.ext
    have hj64 := j.isLt
    show j.val = (px y p).toNat
    rw [he, BitVec.toNat_ofNat]
    omega
  · intro hn; exact absurd (Finset.mem_univ _) hn

/-- Where every id of the second array is below 64, the counts of an id with each of the 64 add up to its pixels. -/
theorem sum_inter (i : ℕ) (h : ∀ p, (px y p).toNat < 64) : (∑ j : Fin 64, inter x y i j.val) = area x i := by
  unfold inter area
  rw [Finset.sum_comm]
  refine Finset.sum_congr rfl fun p _ => ?_
  by_cases hx : px x p = BitVec.ofNat 32 i
  · simp only [ind, hx, if_true, one_mul]
    exact sum_ind y p (h p)
  · simp only [ind, hx, if_false, zero_mul, Finset.sum_const_zero]

/-- The same over the ids of the first array. -/
theorem sum_inter' (j : ℕ) (h : ∀ p, (px x p).toNat < 64) : (∑ i : Fin 64, inter x y i.val j) = area y j := by
  simp only [inter_comm x y]
  exact sum_inter y x j h

/-- The loss of two arrays of ids. -/
def lossOf : EReal :=
  spec (fun i j => inter x y (i.val + 1) (j.val + 1)) (fun i => area x (i.val + 1)) (fun j => area y (j.val + 1))

end

end Cert.Iou

end
-- ==== Proof.Counts.lean ====
/-
  WHAT THE TABLE HOLDS, over the extended reals. Entry (i, j) of the product that one point adds counts the pixels of its
  blocks that hold id `i` in the first array and id `j` in the second; the blocks tile the pixels, so after point 7 the
  table holds the common counts of the whole arrays.
-/
module

public import proofs.«01_k».proof.Proof.Run
public import proofs.«01_k».proof.Proof.Spec
public import Idealize.ShloMosaic.Lib.Pointwise.Sums

@[expose] public section

set_option maxRecDepth 16384

noncomputable section

namespace Cert.KernelIdeal.Iou

open Idealize.ShloMosaic Idealize.ShloMosaic.TcCoe
open Cert.KernelIdeal Cert.KernelIdeal.Gen Cert.Iou

/-- Two words read as numbers are equal exactly when the words are. -/
theorem toReal_inj (a b : BitVec 32) : (((a.toInt : ℝ) : EReal) = ((b.toInt : ℝ) : EReal)) ↔ a = b := by
  rw [EReal.coe_eq_coe_iff, Int.cast_inj, BitVec.toInt_inj]

/-- An entry of a row's one-hot: whether the lane of that row holds the id. -/
theorem slab_apply (x : Vec Ideal S1x128x1024 .i32) (r : Fin 128) (i : Fin 64) (l : Fin 1024) :
    slab (F := Ideal) (k0_pay9 x) r (ix2 i l) = if x (ix3 0 r l) = BitVec.ofNat 32 i.val then (1 : EReal) else 0 := by
  have h : slab (F := Ideal) (k0_pay9 x) r (ix2 i l)
      = if (((x (ix3 0 r l)).toInt : ℝ) : EReal) = (((BitVec.ofNat 32 i.val).toInt : ℝ) : EReal) then (1 : EReal) else 0 := by
    pointwise [slab, k0_pay9, k0_pay11]
    rfl
  rw [h]
  exact if_congr (toReal_inj _ _) rfl rfl

/-- An entry of a block's one-hot matrix: whether the pixel holds the id, the rows one after another. -/
theorem onehot_apply (x : Vec Ideal S1x128x1024 .i32) (i : Fin 64) (k : Fin 131072) :
    onehot (F := Ideal) x (ix2 i k)
      = if x (ix3 0 ⟨k.val / 1024, by omega⟩ ⟨k.val % 1024, by omega⟩) = BitVec.ofNat 32 i.val then (1 : EReal) else 0 := by
  rw [← slab_apply]
  unfold onehot
  refine concatenate_ofFn_apply (s₁ := S64x1024) (t := S64x131072) 1 (fun r : Fin 128 => slab (F := Ideal) (k0_pay9 x) r)
    _ rfl 1024 rfl (ix2 i k) ⟨k.val / 1024, by omega⟩ rfl (ix2 i ⟨k.val % 1024, by omega⟩) rfl ?_
  intro b hb
  fin_cases b
  · rfl
  · exact absurd rfl hb

/-- An entry of the product of two blocks' one-hot matrices. -/
theorem part_apply (x y : Vec Ideal S1x128x1024 .i32) (i j : Fin 64) :
    part (F := Ideal) x y (ix2 i j) = ∑ k : Fin 131072, (onehot (F := Ideal) x (ix2 i k) : EReal) * onehot (F := Ideal) y (ix2 j k) := by
  pointwise [part]

variable (m : (ℓ : Loc nD τ sig) → Buf (Elt Ideal) ℓ) (c : Dev nD)

/-- The first array of ids. -/
abbrev pred : S1x1024x1024.Idx → BitVec 32 := m (c.tc.loc main_arg0)

/-- The second array of ids. -/
abbrev truth : S1x1024x1024.Idx → BitVec 32 := m (c.tc.loc main_arg1)

/-- Row `r` of point `t`'s block is row `128 t + r` of the array: the pixels of the block follow one another. -/
theorem pixel_lt (t : Fin cfg0.N) (k : Fin 131072) : t.val * 131072 + k.val < 1048576 := by
  have ht : t.val < 8 := by have : t.val < grid0.N := t.isLt; rwa [N_0] at this
  omega

/-- Pixel `k` of the first array's block at point `t` is pixel `131072 t + k` of the array. -/
theorem block_pred (t : Fin cfg0.N) (k : Fin 131072) :
    (iblk m c 0 t : Vec Ideal S1x128x1024 .i32) (ix3 0 ⟨k.val / 1024, by omega⟩ ⟨k.val % 1024, by omega⟩)
      = px (pred m c) ⟨t.val * 131072 + k.val, pixel_lt t k⟩ := by
  have hi : win0_0.index t 0 = 0 ∧ win0_0.index t 1 = t.val ∧ win0_0.index t 2 = 0 := by
    rcases fin_N0 t with rfl | rfl | rfl | rfl | rfl | rfl | rfl | rfl <;> decide
  unfold iblk px
  rw [View.read_apply]
  show V m c main_arg0 _ = m (c.tc.loc main_arg0) _
  unfold V
  congr 1
  funext a
  apply Fin.ext
  match a with
  | ⟨0, _⟩ => show win0_0.index t 0 * 1 + 1 * 0 = 0; rw [hi.1]
  | ⟨1, _⟩ =>
    show win0_0.index t 1 * 128 + 1 * (k.val / 1024) = (t.val * 131072 + k.val) / 1024
    rw [hi.2.1]; omega
  | ⟨2, _⟩ =>
    show win0_0.index t 2 * 1024 + 1 * (k.val % 1024) = (t.val * 131072 + k.val) % 1024
    rw [hi.2.2]; omega

/-- Pixel `k` of the second array's block at point `t` is pixel `131072 t + k` of the array. -/
theorem block_truth (t : Fin cfg0.N) (k : Fin 131072) :
    (iblk m c 1 t : Vec Ideal S1x128x1024 .i32) (ix3 0 ⟨k.val / 1024, by omega⟩ ⟨k.val % 1024, by omega⟩)
      = px (truth m c) ⟨t.val * 131072 + k.val, pixel_lt t k⟩ := by
  have hi : win0_1.index t 0 = 0 ∧ win0_1.index t 1 = t.val ∧ win0_1.index t 2 = 0 := by
    rcases fin_N0 t with rfl | rfl | rfl | rfl | rfl | rfl | rfl | rfl <;> decide
  unfold iblk px
  rw [View.read_apply]
  show V m c main_arg1 _ = m (c.tc.loc main_arg1) _
  unfold V
  congr 1
  funext a
  apply Fin.ext
  match a with
  | ⟨0, _⟩ => show win0_1.index t 0 * 1 + 1 * 0 = 0; rw [hi.1]
  | ⟨1, _⟩ =>
    show win0_1.index t 1 * 128 + 1 * (k.val / 1024) = (t.val * 131072 + k.val) / 1024
    rw [hi.2.1]; omega
  | ⟨2, _⟩ =>
    show win0_1.index t 2 * 1024 + 1 * (k.val % 1024) = (t.val * 131072 + k.val) % 1024
    rw [hi.2.2]; omega

/-- The counts one point adds: its pixels that hold id `i` in the first array and id `j` in the second. -/
theorem partAt_apply (t : Fin cfg0.N) (i j : Fin 64) : partAt m c t (ix2 i j)
    = ∑ k : Fin 131072, ind (pred m c) i.val ⟨t.val * 131072 + k.val, pixel_lt t k⟩
        * ind (truth m c) j.val ⟨t.val * 131072 + k.val, pixel_lt t k⟩ := by
  unfold partAt
  rw [part_apply]
  refine Finset.sum_congr rfl fun k _ => ?_
  rw [onehot_apply, onehot_apply, block_pred, block_truth]
  rfl

/-- The table after point `n` is the sum of the counts of the points 0..n. -/
theorem table_apply (i j : Fin 64) : ∀ (n : ℕ) (h : n < cfg0.N),
    table m c n h (ix2 i j) = ∑ t : Fin (n + 1), (partAt m c ⟨t.val, by have := t.isLt; omega⟩ (ix2 i j) : EReal)
  | 0, h => by rw [Fin.sum_univ_one]; rfl
  | n + 1, h => by
    rw [Fin.sum_univ_castSucc]
    show (table m c n _ (ix2 i j) : EReal) + partAt m c ⟨n + 1, h⟩ (ix2 i j) = _
    rw [table_apply i j n (Nat.lt_of_succ_lt h)]
    rfl

/-- After the last point the table holds the common counts of the whole arrays. -/
theorem table_last (i j : Fin 64) : table m c 7 seven_lt (ix2 i j) = inter (pred m c) (truth m c) i.val j.val := by
  rw [table_apply]
  unfold inter
  rw [Fin.sum_univ_tiles 8 131072 rfl]
  exact Finset.sum_congr rfl fun t _ => partAt_apply m c _ i j

end Cert.KernelIdeal.Iou

end
-- ==== Proof.Final.lean ====
/-
  WHAT THE LAST POINT COMPUTES FROM THE TABLE, over the extended reals: the loss of the common meaning, with the row
  sums of the table as the areas of the first array and its column sums as those of the second. Row 0 and column 0, the
  background, take part in the sums only.
-/
module

public import proofs.«01_k».proof.Proof.Block
public import proofs.«01_k».proof.Proof.Spec

@[expose] public section

set_option maxRecDepth 16384

noncomputable section

namespace Cert.KernelIdeal.Iou

open Idealize.ShloMosaic Idealize.ShloMosaic.TcCoe
open Cert.KernelIdeal Cert.KernelIdeal.Gen Cert.Iou

variable (v : FVec Ideal S64x64 .f32)

/-- The sum of a row of the table. -/
def row (i : Fin 64) : EReal := ∑ k : Fin 64, v (ix2 i k)

/-- The sum of a column of the table. -/
def col (j : Fin 64) : EReal := ∑ k : Fin 64, v (ix2 k j)

/-- An id past the first is not 0. -/
theorem succ_ne_zero : ∀ k : Fin 63, IntOp.cmpi .eq (BitVec.ofNat 32 k.succ.val) 0#32 = 0#1 := by decide

/-- An id past the first is positive. -/
theorem succ_pos : ∀ k : Fin 63, IntOp.cmpi .sgt (BitVec.ofNat 32 k.succ.val) 0#32 = 1#1 := by decide

/-- The overlaps with id 0 replaced by 0: their largest is the largest over the other ids. -/
theorem best_masked (f : Fin 64 → EReal) (hf : ∀ k, 0 ≤ f k) :
    Finset.univ.fold max (Ideal.ofBits .f32 4286578688#32)
        (fun k : Fin 64 => Scalar.select (IntOp.cmpi .eq (BitVec.ofNat 32 k.val) 0#32) (0 : EReal) (f k))
      = best fun k : Fin 63 => f k.succ := by
  rw [negInf]
  refine (best_succ _ rfl fun k => ?_).trans (congrArg best (funext fun k => ?_))
  · unfold Scalar.select
    split
    · exact le_rfl
    · exact hf k
  · rw [succ_ne_zero k, choose_zero]

/-- The largest overlap in row `i`. -/
theorem bestRow_eq (hv : ∀ j, 0 ≤ v j) (i : Fin 64) :
    k0_pay5 (F := Ideal) v (ix2 i 0) = best fun k : Fin 63 => iou (v (ix2 i k.succ)) (row v i) (col v k.succ) := by
  refine Eq.trans ?_ (best_masked (fun k => iou (v (ix2 i k)) (row v i) (col v k)) fun k => iou_nonneg _ _ (hv _))
  pointwise [k0_pay5, k0_pay4, k0_pay2, k0_pay3]
  rfl

/-- The largest overlap in column `j`. -/
theorem bestCol_eq (hv : ∀ j, 0 ≤ v j) (j : Fin 64) :
    k0_pay6 (F := Ideal) v (ix2 0 j) = best fun k : Fin 63 => iou (v (ix2 k.succ j)) (row v k.succ) (col v j) := by
  refine Eq.trans ?_ (best_masked (fun k => iou (v (ix2 k j)) (row v k) (col v j)) fun k => iou_nonneg _ _ (hv _))
  pointwise [k0_pay6, k0_pay4, k0_pay2, k0_pay3]
  rfl

/-- Whether id `i` is present in the first array: its row sum and the id are positive. -/
theorem hasRow_eq (i : Fin 64) : k0_pay7 (F := Ideal) v (ix2 i 0)
    = IntOp.andi (BitVec.ofBool (decide (0 < row v i))) (IntOp.cmpi .sgt (BitVec.ofNat 32 i.val) 0#32) := by
  pointwise [k0_pay7, k0_pay2]
  rfl

/-- Whether id `j` is present in the second array: its column sum and the id are positive. -/
theorem hasCol_eq (j : Fin 64) : k0_pay8 (F := Ideal) v (ix2 0 j)
    = IntOp.andi (BitVec.ofBool (decide (0 < col v j))) (IntOp.cmpi .sgt (BitVec.ofNat 32 j.val) 0#32) := by
  pointwise [k0_pay8, k0_pay3]
  rfl

/-- A bit and the bit 1. -/
theorem and_one (b : BitVec 1) : IntOp.andi b 1#1 = b := by revert b; decide

/-- Id 0 is never present. -/
theorem and_pos_zero (b : BitVec 1) : IntOp.andi b (IntOp.cmpi .sgt (BitVec.ofNat 32 (0 : Fin 64).val) 0#32) = 0#1 := by
  revert b; decide

/-- The sum over the ids of what the present ids give is the sum over the ids past the first. -/
theorem sum_present (b : Fin 64 → BitVec 1) (a : Fin 64 → EReal) (g : BitVec 1 → Fin 64 → EReal)
    (hb : ∀ i, b i = IntOp.andi (BitVec.ofBool (decide (0 < a i))) (IntOp.cmpi .sgt (BitVec.ofNat 32 i.val) 0#32))
    (hg : ∀ i, g 0#1 i = 0) :
    (∑ i, g (b i) i) = ∑ k : Fin 63, g (BitVec.ofBool (decide (0 < a k.succ))) k.succ := by
  rw [Fin.sum_univ_succ, hb 0, and_pos_zero, hg, zero_add]
  refine Finset.sum_congr rfl fun k _ => ?_
  rw [hb, succ_pos, and_one]

/-- The loss from its four ingredients. -/
theorem combine_eq (p : FVec Ideal S64x1 .f32) (q : FVec Ideal S1x64 .f32) (b : IVec S64x1 1) (d : IVec S1x64 1) :
    k0_pay1 (F := Ideal) p q b d (Scalar.ofBits .f32 0x3F800000#32) (ix2 0 0)
      = if 0 < (∑ k : Fin 64, (((BitVec.setWidth 32 (b (ix2 k 0))).toInt : ℝ) : EReal))
            + ∑ k : Fin 64, (((BitVec.setWidth 32 (d (ix2 0 k))).toInt : ℝ) : EReal)
        then Ideal.div ((∑ k : Fin 64, Scalar.select (b (ix2 k 0)) (1 - p (ix2 k 0)) (0 : EReal))
            + ∑ k : Fin 64, Scalar.select (d (ix2 0 k)) (1 - q (ix2 0 k)) (0 : EReal))
          (max ((∑ k : Fin 64, (((BitVec.setWidth 32 (b (ix2 k 0))).toInt : ℝ) : EReal))
            + ∑ k : Fin 64, (((BitVec.setWidth 32 (d (ix2 0 k))).toInt : ℝ) : EReal)) 1)
        else 0 := by
  pointwise [k0_pay1]
  rfl

/-- The last point's loss is the common meaning's loss of the table past row 0 and column 0, with the table's row sums
and column sums as areas. -/
theorem loss_eq (hv : ∀ j, 0 ≤ v j) : loss (F := Ideal) v (ix2 0 0)
    = spec (fun i j => v (ix2 i.succ j.succ)) (fun i => row v i.succ) (fun j => col v j.succ) := by
  unfold loss
  rw [combine_eq]
  rw [sum_present (fun k => k0_pay7 (F := Ideal) v (ix2 k 0)) (row v) (fun b _ => (((BitVec.setWidth 32 b).toInt : ℝ) : EReal))
      (hasRow_eq v) (fun _ => by simp),
    sum_present (fun k => k0_pay8 (F := Ideal) v (ix2 0 k)) (col v) (fun b _ => (((BitVec.setWidth 32 b).toInt : ℝ) : EReal))
      (hasCol_eq v) (fun _ => by simp),
    sum_present (fun k => k0_pay7 (F := Ideal) v (ix2 k 0)) (row v) (fun b k => Scalar.select b (1 - k0_pay5 (F := Ideal) v (ix2 k 0)) (0 : EReal))
      (hasRow_eq v) (fun _ => rfl),
    sum_present (fun k => k0_pay8 (F := Ideal) v (ix2 0 k)) (col v) (fun b k => Scalar.select b (1 - k0_pay6 (F := Ideal) v (ix2 0 k)) (0 : EReal))
      (hasCol_eq v) (fun _ => rfl)]
  simp only [bit_signed, choose_decide, bestRow_eq v hv, bestCol_eq v hv, sum_ones]
  have hn : ∀ a b : ℕ, ((a : ℝ) : EReal) + ((b : ℝ) : EReal) = (((a + b : ℕ) : ℝ) : EReal) := fun a b => by push_cast; rfl
  rw [hn]
  unfold spec instances total
  refine if_congr ?_ rfl rfl
  norm_cast

end Cert.KernelIdeal.Iou

end
-- ==== Proof.Reference.lean ====
/-
  WHAT THE REFERENCE COMPUTES, over the extended reals: the loss of the common meaning for the counts of its two arrays.
-/
module

public import proofs.«01_k».proof.Proof.Gen.ReferenceIdeal.Read
public import proofs.«01_k».proof.Proof.Spec

@[expose] public section

set_option maxRecDepth 16384

noncomputable section

namespace Cert.ReferenceIdeal.Iou

open Idealize.ShloMosaic Idealize.ShloMosaic.TcCoe
open Cert.ReferenceIdeal Cert.ReferenceIdeal.Gen Cert.ReferenceIdeal.Read Cert.Iou

variable (x y : (⟨S1x1024x1024, .i32⟩ : BufTy).Contents (Elt Ideal))

/-- The ids of the reference count from 1. -/
theorem id_succ (i : ℕ) : IntOp.addi 1#32 (BitVec.ofNat 32 i) = BitVec.ofNat 32 (i + 1) := by
  unfold IntOp.addi
  rw [Nat.add_comm, BitVec.ofNat_add]

/-- A comparison of words for equality, read as a number. -/
theorem eq_bit (a b : BitVec 32) : (((IntOp.cmpi .eq a b).toNat : ℝ) : EReal) = if a = b then 1 else 0 := by
  by_cases h : a = b <;> simp [IntOp.cmpi, h]

/-- The first one-hot matrix: entry (i, p) says whether pixel `p` of the first array holds id `i + 1`. -/
theorem onehot_x (i : Fin 63) (p : Fin 1048576) : val_main_v12 (F := Ideal) x (ix2 i p) = ind x (i.val + 1) p := by
  refine Eq.trans ?_ (eq_bit (px x p) (BitVec.ofNat 32 (i.val + 1)))
  rw [← id_succ]
  pointwise [val_main_v12, val_main_v11, val_main_v10, val_main_v9, val_main_v8, val_main_v7, val_main_v2, val_main_v1,
    val_main_v0, val_main_c, val_main_v4, val_main_v3]
  rfl

/-- The second one-hot matrix: entry (j, p) says whether pixel `p` of the second array holds id `j + 1`. -/
theorem onehot_y (j : Fin 63) (p : Fin 1048576) : val_main_v18 (F := Ideal) y (ix2 j p) = ind y (j.val + 1) p := by
  refine Eq.trans ?_ (eq_bit (px y p) (BitVec.ofNat 32 (j.val + 1)))
  rw [← id_succ]
  pointwise [val_main_v18, val_main_v17, val_main_v16, val_main_v15, val_main_v14, val_main_v13, val_main_v2, val_main_v1,
    val_main_v0, val_main_c, val_main_v6, val_main_v5]
  rfl

/-- A product along the pixels as the reference writes it. -/
theorem product (u v : FVec Ideal S63x1048576 .f32) (i j : Fin 63) :
    Host.dotGeneral (F := Ideal) dot_S63x1048576_S1048576x63_S63x63_1_0_0_1_n_n none u
        (transpose S1048576x63 [1, 0] v transposes_S63x1048576_S1048576x63_1_0) (ix2 i j)
      = ∑ p : Fin 1048576, (u (ix2 i p) : EReal) * v (ix2 j p) := by
  pointwise []

/-- A sum along the pixels as the reference writes it. -/
theorem pixelSum (v : FVec Ideal S63x1048576 .f32) (i : Fin 63) :
    Host.reduceAdd v (constant (F := Ideal) S_ .f32 0x00000000#32) reducesTo_S63x1048576_S63_d1 h_S_ (ix1 i)
      = ∑ p : Fin 1048576, (v (ix2 i p) : EReal) := by
  pointwise []

/-- The product of the one-hot matrices holds the common counts. -/
theorem inter_eq (i j : Fin 63) : val_main_v20 (F := Ideal) x y (ix2 i j) = inter x y (i.val + 1) (j.val + 1) := by
  unfold val_main_v20 val_main_v19
  refine (product _ _ i j).trans (Finset.sum_congr rfl fun p _ => ?_)
  rw [onehot_x, onehot_y]

/-- The row sums of the first one-hot matrix are the areas of the first array. -/
theorem area_x (i : Fin 63) : val_main_v21 (F := Ideal) x (ix1 i) = area x (i.val + 1) := by
  unfold val_main_v21 val_main_cst
  exact (pixelSum _ i).trans (Finset.sum_congr rfl fun p _ => onehot_x x i p)

/-- The row sums of the second one-hot matrix are the areas of the second array. -/
theorem area_y (j : Fin 63) : val_main_v22 (F := Ideal) y (ix1 j) = area y (j.val + 1) := by
  unfold val_main_v22 val_main_cst_0
  exact (pixelSum _ j).trans (Finset.sum_congr rfl fun p _ => onehot_y y j p)

/-- The pixels of either id: the areas less the common count. -/
theorem union_eq (n : FVec Ideal S63x63 .f32) (a b : FVec Ideal S63 .f32) (i j : Fin 63) :
    subf (addf (broadcastInDim S63x63 ![0, 1] bcast_S63x1_S63x63_0_1 (broadcastInDim S63x1 ![0] bcast_S63_S63x1_0 a))
      (broadcastInDim S63x63 ![0, 1] bcast_S1x63_S63x63_0_1 (broadcastInDim S1x63 ![1] bcast_S63_S1x63_1 b))) n (ix2 i j)
      = (a (ix1 i) + b (ix1 j) - n (ix2 i j) : EReal) := by
  pointwise []

/-- A common count over the pixels of either id, 0 where there are none. -/
theorem ratio_eq (n u : FVec Ideal S63x63 .f32) (i j : Fin 63) :
    select (cmpf .ogt u (val_main_v29 (F := Ideal))) (Host.divf n (maximumf u (val_main_v31 (F := Ideal))))
        (val_main_call0_v1 (F := Ideal)) (ix2 i j)
      = if (0 : EReal) < u (ix2 i j) then Ideal.div (n (ix2 i j)) (max (u (ix2 i j)) 1) else 0 := by
  pointwise [val_main_v31, val_main_v29, val_main_cst_1, val_main_cst_2, val_main_cst_3, val_main_call0_v1,
    val_main_call0_v0, id]

/-- The overlaps. -/
theorem iou_eq (i j : Fin 63) : val_main_v34 (F := Ideal) x y (ix2 i j)
    = iou (inter x y (i.val + 1) (j.val + 1)) (area x (i.val + 1)) (area y (j.val + 1)) := by
  have h : val_main_v28 (F := Ideal) x y (ix2 i j) = _ := union_eq _ _ _ i j
  rw [area_x, area_y, inter_eq] at h
  refine (ratio_eq _ _ i j).trans ?_
  rw [inter_eq, h]
  rfl

/-- The largest of each row as the reference writes it. -/
theorem rowMax (v : FVec Ideal S63x63 .f32) (i : Fin 63) :
    Host.reduce FloatOps.maximumf v (constant (F := Ideal) S_ .f32 0xFF800000#32) reducesTo_S63x63_S63_d1 h_S_ (ix1 i)
      = best fun j : Fin 63 => v (ix2 i j) := by
  unfold best
  rw [← negInf]
  pointwise []

/-- The largest of each column as the reference writes it. -/
theorem colMax (v : FVec Ideal S63x63 .f32) (j : Fin 63) :
    Host.reduce FloatOps.maximumf v (constant (F := Ideal) S_ .f32 0xFF800000#32) reducesTo_S63x63_S63_d0 h_S_ (ix1 j)
      = best fun i : Fin 63 => v (ix2 i j) := by
  unfold best
  rw [← negInf]
  pointwise []

/-- The best overlap of each id of the first array. -/
theorem best_x (i : Fin 63) : val_main_v39 (F := Ideal) x y (ix1 i)
    = best fun j : Fin 63 => iou (inter x y (i.val + 1) (j.val + 1)) (area x (i.val + 1)) (area y (j.val + 1)) := by
  unfold val_main_v39 val_main_cst_6
  exact (rowMax _ i).trans (congrArg best (funext fun j => iou_eq x y i j))

/-- The best overlap of each id of the second array. -/
theorem best_y (j : Fin 63) : val_main_v40 (F := Ideal) x y (ix1 j)
    = best fun i : Fin 63 => iou (inter x y (i.val + 1) (j.val + 1)) (area x (i.val + 1)) (area y (j.val + 1)) := by
  unfold val_main_v40 val_main_cst_7
  exact (colMax _ j).trans (congrArg best (funext fun i => iou_eq x y i j))

/-- Whether an id is present in the first array. -/
theorem has_x (i : Fin 63) : val_main_v36 (F := Ideal) x (ix1 i) = BitVec.ofBool (decide (0 < area x (i.val + 1))) := by
  rw [val_main_v36_apply, area_x]
  pointwise [val_main_v35, val_main_cst_4]

/-- Whether an id is present in the second array. -/
theorem has_y (j : Fin 63) : val_main_v38 (F := Ideal) y (ix1 j) = BitVec.ofBool (decide (0 < area y (j.val + 1))) := by
  rw [val_main_v38_apply, area_y]
  pointwise [val_main_v37, val_main_cst_5]

/-- A count of bits as the reference writes it: the widened bits added up as words. -/
theorem bitCount (b : IVec S63 1) : Host.reduce IntOp.addi (extui 32 b natLt_1_32) (constantI S_ 32 0#32) reducesTo_S63_S_d0 h_S_ ix0
      = Finset.univ.fold IntOp.addi 0#32 fun i : Fin 63 => BitVec.setWidth 32 (b (ix1 i)) := by
  pointwise []

/-- The number of ids present in the first array. -/
theorem count_x : val_main_v51 (F := Ideal) x ix0
    = BitVec.ofNat 32 (Finset.univ.filter fun i : Fin 63 => 0 < area x (i.val + 1)).card := by
  unfold val_main_v51 val_main_v50 val_main_c_14
  rw [← fold_bits]
  exact (bitCount _).trans (Finset.fold_congr fun i _ => by rw [has_x])

/-- The number of ids present in the second array. -/
theorem count_y : val_main_v53 (F := Ideal) y ix0
    = BitVec.ofNat 32 (Finset.univ.filter fun j : Fin 63 => 0 < area y (j.val + 1)).card := by
  unfold val_main_v53 val_main_v52 val_main_c_15
  rw [← fold_bits]
  exact (bitCount _).trans (Finset.fold_congr fun j _ => by rw [has_y])

end Cert.ReferenceIdeal.Iou

end
-- ==== Proof.RefLoss.lean ====
/-
  THE REFERENCE'S LOSS, over the extended reals: the reference's one number is the loss of the common meaning.
-/
module

public import proofs.«01_k».proof.Proof.Reference

@[expose] public section

set_option maxRecDepth 16384

noncomputable section

namespace Cert.ReferenceIdeal.Iou

open Idealize.ShloMosaic Idealize.ShloMosaic.TcCoe
open Cert.ReferenceIdeal Cert.ReferenceIdeal.Gen Cert.ReferenceIdeal.Read Cert.Iou

variable (x y : (⟨S1x1024x1024, .i32⟩ : BufTy).Contents (Elt Ideal))

/-- What each id of the first array adds to the loss. -/
theorem term_x (i : Fin 63) : val_main_v43 (F := Ideal) x y (ix1 i)
    = if 0 < area x (i.val + 1) then 1 - best (fun j : Fin 63 =>
        iou (inter x y (i.val + 1) (j.val + 1)) (area x (i.val + 1)) (area y (j.val + 1))) else 0 := by
  rw [val_main_v43_apply, has_x, choose_decide, val_main_v42_apply, best_x]
  pointwise [val_main_v41, val_main_cst_8, val_main_call1_v1, val_main_call1_v0, val_main_cst_9, id]

/-- What each id of the second array adds to the loss. -/
theorem term_y (j : Fin 63) : val_main_v47 (F := Ideal) x y (ix1 j)
    = if 0 < area y (j.val + 1) then 1 - best (fun i : Fin 63 =>
        iou (inter x y (i.val + 1) (j.val + 1)) (area x (i.val + 1)) (area y (j.val + 1))) else 0 := by
  rw [val_main_v47_apply, has_y, choose_decide, val_main_v46_apply, best_y]
  pointwise [val_main_v45, val_main_cst_11, val_main_call2_v1, val_main_call2_v0, val_main_cst_12, id]

/-- A sum of 63 numbers as the reference writes it. -/
theorem sum63 (v : FVec Ideal S63 .f32) :
    Host.reduceAdd v (constant (F := Ideal) S_ .f32 0x00000000#32) reducesTo_S63_S_d0 h_S_ ix0
      = ∑ i : Fin 63, (v (ix1 i) : EReal) := by
  pointwise []

/-- The sum over the ids of the first array. -/
theorem sum_x : val_main_v44 (F := Ideal) x y ix0 = ∑ i : Fin 63, (val_main_v43 (F := Ideal) x y (ix1 i) : EReal) := by
  unfold val_main_v44 val_main_cst_10
  exact sum63 _

/-- The sum over the ids of the second array. -/
theorem sum_y : val_main_v48 (F := Ideal) x y ix0 = ∑ j : Fin 63, (val_main_v47 (F := Ideal) x y (ix1 j) : EReal) := by
  unfold val_main_v48 val_main_cst_13
  exact sum63 _

/-- The reference's total. -/
theorem total_eq : val_main_v49 (F := Ideal) x y ix0
    = total (fun i j => inter x y (i.val + 1) (j.val + 1)) (fun i => area x (i.val + 1)) (fun j => area y (j.val + 1)) := by
  rw [val_main_v49_apply, sum_x, sum_y]
  simp only [term_x, term_y]
  unfold total
  rfl

/-- Counts up to 126 compare with 0 as words as they do as numbers. -/
theorem word_pos : ∀ n : Fin 127, IntOp.cmpi .sgt (BitVec.ofNat 32 n.val) 0#32 = BitVec.ofBool (decide (0 < n.val)) := by
  decide +kernel

/-- The larger of a count up to 126 and 1, as a word, is that number. -/
theorem word_max : ∀ n : Fin 127, (IntOp.maxsi (BitVec.ofNat 32 n.val) 1#32).toInt = ((max n.val 1 : ℕ) : ℤ) := by
  decide +kernel

/-- The reference's number is the loss of its two arrays. -/
theorem value_eq (k : S_.Idx) : val_main_v59 (F := Ideal) x y k = lossOf x y := by
  obtain rfl : k = ix0 := funext fun a => a.elim0
  have h : val_main_v59 (F := Ideal) x y ix0
      = Scalar.select (IntOp.cmpi .sgt (val_main_v54 (F := Ideal) x y ix0) 0#32)
          (Ideal.div (val_main_v49 (F := Ideal) x y ix0)
            (((IntOp.maxsi (val_main_v54 (F := Ideal) x y ix0) 1#32).toInt : ℝ) : EReal)) (0 : EReal) := by
    pointwise [val_main_v59, val_main_v58, val_main_v57, val_main_v56, val_main_v55, val_main_c_16, val_main_c_17,
      val_main_cst_18, val_main_call3_v0, id]
    rfl
  have hn : val_main_v54 (F := Ideal) x y ix0
      = BitVec.ofNat 32 (instances (fun i => area x (i.val + 1)) (fun j => area y (j.val + 1))) := by
    have : val_main_v54 (F := Ideal) x y ix0
        = IntOp.addi (val_main_v51 (F := Ideal) x ix0) (val_main_v53 (F := Ideal) y ix0) := rfl
    rw [this, count_x, count_y]
    unfold instances
    rw [BitVec.ofNat_add]
    rfl
  have hlt := instances_lt (fun i => area x (i.val + 1)) (fun j => area y (j.val + 1))
  unfold lossOf spec
  generalize instances (fun i => area x (i.val + 1)) (fun j => area y (j.val + 1)) = n at hn hlt ⊢
  rw [h, hn, total_eq, word_pos ⟨n, hlt⟩, word_max ⟨n, hlt⟩, choose_decide]
  refine if_congr Iff.rfl (congrArg _ ?_) rfl
  push_cast
  rfl

end Cert.ReferenceIdeal.Iou

end
-- ==== Proof.Agree.lean ====
/-
  THE EQUATION. Where every id is in [0, 64), the table's row sums and column sums are the areas the reference counts,
  so the kernel's one number and the reference's are the same loss of the same two arrays.
-/
module

public import proofs.«01_k».proof.Proof.Counts
public import proofs.«01_k».proof.Proof.Final
public import proofs.«01_k».proof.Proof.RefLoss
public import proofs.«01_k».proof.Proof.Gen.Pre_pre

@[expose] public section

set_option maxRecDepth 16384

noncomputable section

namespace Cert.Agree

open Idealize.ShloMosaic Idealize.ShloMosaic.TcCoe
open Cert.Iou Cert.KernelIdeal.Iou

/-- Four bits whose conjunction is 1 are each 1. -/
theorem and_four : ∀ a b c d : BitVec 1, IntOp.andi (IntOp.andi (IntOp.andi a b) c) d = 1#1 →
    a = 1#1 ∧ b = 1#1 ∧ c = 1#1 ∧ d = 1#1 := by decide

/-- A word that is at least 0 and below 64 as a signed number is below 64 as a natural number. -/
theorem word_lt (a : BitVec 32) (h0 : IntOp.cmpi .sge a 0#32 = 1#1) (h1 : IntOp.cmpi .slt a 64#32 = 1#1) : a.toNat < 64 := by
  have e0 : (0#32).sle a = true := by
    have := h0; simp only [IntOp.cmpi] at this
    cases hh : (0#32).sle a
    · rw [hh] at this; exact absurd this (by decide)
    · rfl
  have e1 : a.slt 64#32 = true := by
    have := h1; simp only [IntOp.cmpi] at this
    cases hh : a.slt 64#32
    · rw [hh] at this; exact absurd this (by decide)
    · rfl
  rw [BitVec.sle_iff_toInt_le] at e0
  rw [BitVec.slt_iff_toInt_lt] at e1
  have z : (0#32).toInt = 0 := by decide
  have s : (64#32).toInt = 64 := by decide
  rw [z] at e0
  rw [s] at e1
  have h := BitVec.toInt_eq_toNat_cond a
  have := a.isLt
  split at h <;> omega

/-- Under the precondition every id of both arrays is below 64. -/
theorem ids_lt (x y : IVec Cert.Pre_pre.S1x1024x1024 32) (h : Cert.Pre_pre.fn (F := Ideal) x y = fun _ => 1#1) (p : Fin 1048576) :
    (px x p).toNat < 64 ∧ (px y p).toNat < 64 := by
  have h' := congrFun h (ix3 0 ⟨p.val / 1024, by omega⟩ ⟨p.val % 1024, by omega⟩)
  obtain ⟨a, b, c, d⟩ := and_four (IntOp.cmpi .sge (px x p) 0#32) (IntOp.cmpi .slt (px x p) 64#32)
    (IntOp.cmpi .sge (px y p) 0#32) (IntOp.cmpi .slt (px y p) 64#32) h'
  exact ⟨word_lt _ a b, word_lt _ c d⟩

section
variable (m : (ℓ : Loc Cert.KernelIdeal.nD Cert.KernelIdeal.τ Cert.KernelIdeal.sig) → Buf (Elt Ideal) ℓ) (c : Dev Cert.KernelIdeal.nD)

/-- The kernel's one number, where every id is below 64. -/
theorem kernel_eq (hx : ∀ p, (px (pred m c) p).toNat < 64) (hy : ∀ p, (px (truth m c) p).toNat < 64) :
    loss (F := Ideal) (table m c 7 seven_lt) (ix2 0 0) = lossOf (pred m c) (truth m c) := by
  have hv : ∀ j : Cert.KernelIdeal.S64x64.Idx, (0 : EReal) ≤ table m c 7 seven_lt j := fun j => by
    obtain ⟨a, b, rfl⟩ : ∃ a b : Fin 64, j = ix2 a b := ⟨j 0, j 1, funext fun a => by fin_cases a <;> rfl⟩
    rw [table_last]
    exact inter_nonneg ..
  rw [loss_eq _ hv]
  have hr : ∀ i : Fin 63, row (table m c 7 seven_lt) i.succ = area (pred m c) (i.val + 1) := fun i => by
    unfold row
    simp only [table_last]
    exact sum_inter _ _ _ hy
  have hc : ∀ j : Fin 63, col (table m c 7 seven_lt) j.succ = area (truth m c) (j.val + 1) := fun j => by
    unfold col
    simp only [table_last]
    exact sum_inter' _ _ _ hx
  unfold lossOf
  simp only [hr, hc, table_last]
  rfl

/-- The two programs' results are equal where their arguments are and every id is in [0, 64). -/
theorem results_eq (m' : (ℓ : Loc Cert.ReferenceIdeal.nD Cert.ReferenceIdeal.τ Cert.ReferenceIdeal.sig) → Buf (Elt Ideal) ℓ)
    (hpre : Cert.Pre_pre.fn (F := Ideal) (pred m c) (truth m c) = fun _ => 1#1)
    (h0 : m' (c.tc.loc Cert.ReferenceIdeal.main_arg0) = m (c.tc.loc Cert.KernelIdeal.main_arg0))
    (h1 : m' (c.tc.loc Cert.ReferenceIdeal.main_arg1) = m (c.tc.loc Cert.KernelIdeal.main_arg1)) :
    Cert.ReferenceIdeal.Value.res_main_v59 (F := Ideal) m' c = scalar m c := by
  rw [Cert.ReferenceIdeal.Read.val_main_v59_eq, h0, h1]
  funext k
  rw [Cert.ReferenceIdeal.Iou.value_eq]
  refine (kernel_eq m c (fun p => (ids_lt _ _ hpre p).1) (fun p => (ids_lt _ _ hpre p).2)).symm.trans ?_
  show _ = loss (F := Ideal) (table m c 7 seven_lt) _
  refine congrArg _ (funext fun a => ?_)
  match a with
  | ⟨0, _⟩ => exact Subsingleton.elim (α := Fin 1) _ _
  | ⟨1, _⟩ => exact Subsingleton.elim (α := Fin 1) _ _

end

end Cert.Agree

end
-- ==== Proof.lean ====
/-
  THE CLAIM. The kernel (bit-exact and ideal) and the reference run, leave their arguments unchanged and every semaphore
  counter at zero; and at the ideal instance, where every id of both arrays is in [0, 64), the kernel's one number is the
  reference's. The mathematics is in the modules this one imports: `Block` (what one grid point leaves), `Run` (what the
  launch leaves), `Spec` (the common meaning), `Counts` (the table holds the common counts), `Final` (the last point's
  loss), `Reference` and `RefLoss` (what the reference computes), `Agree` (the equation).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_pre
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, its arguments end unchanged, and every counter is zero: it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The kernel's number and the reference's are equal as extended reals where every id is in [0, 64). -/
theorem equal : Cert.algebraic_KernelIdeal_ReferenceIdeal_pre_pre := fun m ρ m' ρ' hpre hargs =>
  ⟨fun c => Cert.KernelIdeal.Iou.scalar m c, Cert.KernelIdeal.Iou.run m ρ,
    (θ_run Cert.ReferenceIdeal.defs _ _).mono
      (fun r h c => ⟨(h c).1.trans (Cert.Agree.results_eq m c m' (hpre c) (hargs c).1 (hargs c).2), (h c).2⟩)
      (Cert.ReferenceIdeal.Value.run (F := Ideal) m' ρ')⟩

/-- The whole claim. -/
theorem claim : Cert.Claim := ⟨Cert.Kernel.Gen.facts, Cert.KernelIdeal.Gen.facts, Cert.ReferenceIdeal.Gen.facts,
  Cert.Pre_pre.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  trivial,
  equal⟩

end Cert.Proof

end
